-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_fit_and_sums_regroup [hPre_indices_fit_and_sums_regroup : Cert.Pre_indices_fit_and_sums_regroup.Facts] (m : (ℓ : Loc Cert.KernelIdeal.nD Cert.KernelIdeal.τ Cert.KernelIdeal.sig) → Buf (Elt Ideal) ℓ) : Prop :=
  ∀ c : Dev Cert.KernelIdeal.nD,
    (Cert.Pre_indices_fit_and_sums_regroup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_fit_and_sums_regroup [hPre_indices_fit_and_sums_regroup : Cert.Pre_indices_fit_and_sums_regroup.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_fit_and_sums_regroup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_indices_fit_and_sums_regroup [hKernelIdeal : Cert.KernelIdeal.Facts] [hPre_indices_fit_and_sums_regroup : Cert.Pre_indices_fit_and_sums_regroup.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_fit_and_sums_regroup m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_indices_fit_and_sums_regroup [hReferenceIdeal : Cert.ReferenceIdeal.Facts] [hPre_indices_fit_and_sums_regroup : Cert.Pre_indices_fit_and_sums_regroup.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_fit_and_sums_regroup m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_indices_fit_and_sums_regroup [hKernelIdeal : Cert.KernelIdeal.Facts] [hReferenceIdeal : Cert.ReferenceIdeal.Facts] [hPre_indices_fit_and_sums_regroup : Cert.Pre_indices_fit_and_sums_regroup.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_fit_and_sums_regroup m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_indices_fit_and_sums_regroup : Cert.Pre_indices_fit_and_sums_regroup.Facts),
    quiescent_Kernel (hKernel := hKernel)
    ∧ quiescent_KernelIdeal (hKernelIdeal := hKernelIdeal)
    ∧ quiescent_KernelIdeal_pre_indices_fit_and_sums_regroup (hKernelIdeal := hKernelIdeal) (hPre_indices_fit_and_sums_regroup := hPre_indices_fit_and_sums_regroup)
    ∧ quiescent_ReferenceIdeal (hReferenceIdeal := hReferenceIdeal)
    ∧ quiescent_ReferenceIdeal_pre_indices_fit_and_sums_regroup (hReferenceIdeal := hReferenceIdeal) (hPre_indices_fit_and_sums_regroup := hPre_indices_fit_and_sums_regroup)
    ∧ preserves_Kernel_KernelIdeal
    ∧ algebraic_KernelIdeal_ReferenceIdeal_pre_indices_fit_and_sums_regroup (hKernelIdeal := hKernelIdeal) (hReferenceIdeal := hReferenceIdeal) (hPre_indices_fit_and_sums_regroup := hPre_indices_fit_and_sums_regroup)
-- ==== Pre_indices_fit_and_sums_regroup.lean ====
abbrev S16384x64 : Shape := ⟨2, ![16384, 64]⟩
abbrev S64x64x8 : Shape := ⟨3, ![64, 64, 8]⟩
abbrev S64x8 : Shape := ⟨2, ![64, 8]⟩
abbrev S_ : Shape := ⟨0, ![]⟩
abbrev S64x8x8 : Shape := ⟨3, ![64, 8, 8]⟩
abbrev S64x8x1 : Shape := ⟨3, ![64, 8, 1]⟩
abbrev S64x1x8 : Shape := ⟨3, ![64, 1, 8]⟩

class Facts : Prop where
  bcast_S_S64x8 : S_.BroadcastsInDim S64x8 (![] : Fin 0 → Fin S64x8.rank)
  reducesTo_S64x8_S_d0_1 : S64x8.ReducesTo [0, 1] S_
  h_S_ : 0 < S_.numel
  bcast_S64x8_S64x8x1_0_1 : S64x8.BroadcastsInDim S64x8x1 (![0, 1] : Fin 2 → Fin S64x8x1.rank)
  bcast_S64x8_S64x1x8_0_2 : S64x8.BroadcastsInDim S64x1x8 (![0, 2] : Fin 2 → Fin S64x1x8.rank)
  bcast_S64x8x1_S64x8x8_0_1_2 : S64x8x1.BroadcastsInDim S64x8x8 (![0, 1, 2] : Fin 3 → Fin S64x8x8.rank)
  bcast_S64x1x8_S64x8x8_0_1_2 : S64x1x8.BroadcastsInDim S64x8x8 (![0, 1, 2] : Fin 3 → Fin S64x8x8.rank)
  reducesTo_S64x8x8_S_d0_1_2 : S64x8x8.ReducesTo [0, 1, 2] S_
  bcast_S_S16384x64 : S_.BroadcastsInDim S16384x64 (![] : Fin 0 → Fin S16384x64.rank)
  reducesTo_S16384x64_S_d0_1 : S16384x64.ReducesTo [0, 1] S_
  bcast_S_S64x64x8 : S_.BroadcastsInDim S64x64x8 (![] : Fin 0 → Fin S64x64x8.rank)
  reducesTo_S64x64x8_S_d0_1_2 : S64x64x8.ReducesTo [0, 1, 2] S_

variable [Facts]

def fn_part1 {F : FTy → Type} [FloatOps F] (main_arg1 : FVec F S64x64x8 .f32) (main_v5 : IVec S_ 1) (main_v15 : IVec S_ 1) (main_v18 : IVec S16384x64 1) : IVec S_ 1 :=
  let main_c_3 : IVec S_ 1 := constantI S_ 1 1#1
  let main_v19 : IVec S_ 1 := (fun x v => Host.reduce IntOp.andi x v reducesTo_S16384x64_S_d0_1 h_S_) main_v18 main_c_3
  let main_v20 : FVec F S64x64x8 .f32 := Host.absf main_arg1
  let main_cst_4 : FVec F S_ .f32 := constant S_ .f32 0x7F800000#32
  let main_v21 : FVec F S64x64x8 .f32 := broadcastInDim S64x64x8 ![] bcast_S_S64x64x8 main_cst_4
  let main_v22 : IVec S64x64x8 1 := cmpf .olt main_v20 main_v21
  let main_c_5 : IVec S_ 1 := constantI S_ 1 1#1
  let main_v23 : IVec S_ 1 := (fun x v => Host.reduce IntOp.andi x v reducesTo_S64x64x8_S_d0_1_2 h_S_) main_v22 main_c_5
  let main_v24 : IVec S_ 1 := andi main_v19 main_v23
  let main_v25 : IVec S_ 1 := ori main_v15 main_v24
  let main_v26 : IVec S_ 1 := andi main_v5 main_v25
  main_v26

def fn {F : FTy → Type} [FloatOps F] (main_arg0 : FVec F S16384x64 .f32) (main_arg1 : FVec F S64x64x8 .f32) (main_arg2 : IVec S64x8 32) : IVec S_ 1 :=
  let main_c : IVec S_ 32 := constantI S_ 32 0#32
  let main_v0 : IVec S64x8 32 := broadcastInDim S64x8 ![] bcast_S_S64x8 main_c
  let main_v1 : IVec S64x8 1 := cmpi .sge main_arg2 main_v0
  let main_c_0 : IVec S_ 32 := constantI S_ 32 64#32
  let main_v2 : IVec S64x8 32 := broadcastInDim S64x8 ![] bcast_S_S64x8 main_c_0
  let main_v3 : IVec S64x8 1 := cmpi .slt main_arg2 main_v2
  let main_v4 : IVec S64x8 1 := andi main_v1 main_v3
  let main_c_1 : IVec S_ 1 := constantI S_ 1 1#1
  let main_v5 : IVec S_ 1 := (fun x v => Host.reduce IntOp.andi x v reducesTo_S64x8_S_d0_1 h_S_) main_v4 main_c_1
  let main_v6 : IVec S64x8x8 32 := iotaInDim S64x8x8 32 1
  let main_v7 : IVec S64x8x8 32 := iotaInDim S64x8x8 32 2
  let main_v8 : IVec S64x8x1 32 := broadcastInDim S64x8x1 ![0, 1] bcast_S64x8_S64x8x1_0_1 main_arg2
  let main_v9 : IVec S64x1x8 32 := broadcastInDim S64x1x8 ![0, 2] bcast_S64x8_S64x1x8_0_2 main_arg2
  let main_v10 : IVec S64x8x8 32 := broadcastInDim S64x8x8 ![0, 1, 2] bcast_S64x8x1_S64x8x8_0_1_2 main_v8
  let main_v11 : IVec S64x8x8 32 := broadcastInDim S64x8x8 ![0, 1, 2] bcast_S64x1x8_S64x8x8_0_1_2 main_v9
  let main_v12 : IVec S64x8x8 1 := cmpi .ne main_v10 main_v11
  let main_v13 : IVec S64x8x8 1 := cmpi .eq main_v6 main_v7
  let main_v14 : IVec S64x8x8 1 := ori main_v12 main_v13
  let main_c_2 : IVec S_ 1 := constantI S_ 1 1#1
  let main_v15 : IVec S_ 1 := (fun x v => Host.reduce IntOp.andi x v reducesTo_S64x8x8_S_d0_1_2 h_S_) main_v14 main_c_2
  let main_v16 : FVec F S16384x64 .f32 := Host.absf main_arg0
  let main_cst : FVec F S_ .f32 := constant S_ .f32 0x7F800000#32
  let main_v17 : FVec F S16384x64 .f32 := broadcastInDim S16384x64 ![] bcast_S_S16384x64 main_cst
  let main_v18 : IVec S16384x64 1 := cmpf .olt main_v16 main_v17
  fn_part1 (F := F) main_arg1 main_v5 main_v15 main_v18
-- ==== Kernel.lean ====
abbrev S16384x64 : Shape := ⟨2, ![16384, 64]⟩
abbrev S64x64x8 : Shape := ⟨3, ![64, 64, 8]⟩
abbrev S64x8 : Shape := ⟨2, ![64, 8]⟩
abbrev S64x16384 : Shape := ⟨2, ![64, 16384]⟩
abbrev S4096x16384 : Shape := ⟨2, ![4096, 16384]⟩
abbrev S64x64x16384 : Shape := ⟨3, ![64, 64, 16384]⟩
abbrev S16384x64x64 : Shape := ⟨3, ![16384, 64, 64]⟩
abbrev S64x8192 : Shape := ⟨2, ![64, 8192]⟩
abbrev S128x8192 : Shape := ⟨2, ![128, 8192]⟩
abbrev S4096x64 : Shape := ⟨2, ![4096, 64]⟩
abbrev S64x8x64 : Shape := ⟨3, ![64, 8, 64]⟩
abbrev S64x8x1 : Shape := ⟨3, ![64, 8, 1]⟩
abbrev S64x64x64 : Shape := ⟨3, ![64, 64, 64]⟩
abbrev S128x64 : Shape := ⟨2, ![128, 64]⟩

abbrev nBuf : Space → Nat
  | .hbm => 7
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S64x64x8, .f32⟩
  | .hbm, ⟨2, _⟩ => ⟨S64x8, .i32⟩
  | .hbm, ⟨3, _⟩ => ⟨S64x16384, .f32⟩
  | .hbm, ⟨4, _⟩ => ⟨S4096x16384, .f32⟩
  | .hbm, ⟨5, _⟩ => ⟨S64x64x16384, .f32⟩
  | .hbm, ⟨6, _⟩ => ⟨S16384x64x64, .f32⟩
  | .local _ .vmem, ⟨0, _⟩ => ⟨S64x64x8, .f32⟩
  | .local _ .vmem, ⟨1, _⟩ => ⟨S64x8, .i32⟩
  | .local _ .vmem, ⟨2, _⟩ => ⟨S64x8192, .f32⟩
  | .local _ .vmem, ⟨3, _⟩ => ⟨S64x8192, .f32⟩
  | .local _ .vmem, ⟨4, _⟩ => ⟨S128x8192, .f32⟩
  | .local _ .vmem, ⟨5, _⟩ => ⟨S128x8192, .f32⟩
  | .local _ .vmem, ⟨6, _⟩ => ⟨S4096x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_off1 (i : grid0.Coords) : Fin 2 → Nat :=
  let arg1 : BitVec 32 := BitVec.ofNat 32 (i 1).val
  let c128_i32 : BitVec 32 := 128#32
  let v5 : BitVec 32 := Scalar.muli arg1 c128_i32
  let v6 : Index := Scalar.indexCast v5
  let c0 : Index := 0#32
  ![v6.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x64x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x64 : Shape := ⟨2, ![16384, 64]⟩
abbrev S64x64x8 : Shape := ⟨3, ![64, 64, 8]⟩
abbrev S64x8 : Shape := ⟨2, ![64, 8]⟩
abbrev S_ : Shape := ⟨0, ![]⟩
abbrev S64x8x1 : Shape := ⟨3, ![64, 8, 1]⟩
abbrev S16384x64x8 : Shape := ⟨3, ![16384, 64, 8]⟩
abbrev S64x16384x64 : Shape := ⟨3, ![64, 16384, 64]⟩
abbrev S16384x64x64 : Shape := ⟨3, ![16384, 64, 64]⟩

abbrev nBuf : Space → Nat
  | .hbm => 14
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x64x8, .f32⟩
  | .hbm, ⟨2, _⟩ => ⟨S64x8, .i32⟩
  | .hbm, ⟨3, _⟩ => ⟨S_, .i32⟩
  | .hbm, ⟨4, _⟩ => ⟨S64x8, .i32⟩
  | .hbm, ⟨5, _⟩ => ⟨S64x8, .i1⟩
  | .hbm, ⟨6, _⟩ => ⟨S_, .i32⟩
  | .hbm, ⟨7, _⟩ => ⟨S64x8, .i32⟩
  | .hbm, ⟨8, _⟩ => ⟨S64x8, .i32⟩
  | .hbm, ⟨9, _⟩ => ⟨S64x8, .i32⟩
  | .hbm, ⟨10, _⟩ => ⟨S64x8x1, .i32⟩
  | .hbm, ⟨11, _⟩ => ⟨S16384x64x8, .f32⟩
  | .hbm, ⟨12, _⟩ => ⟨S64x16384x64, .f32⟩
  | .hbm, ⟨13, _⟩ => ⟨S16384x64x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Region.lean ====
/-
  What the pipelined region leaves in its result array, at any float instance: the scratch, filled at the first point,
  holds the weighted one-hot matrix at every point after it; each point writes the product of its 128 scratch rows
  with its 8192 columns of the transposed input; and the 64 blocks tile the array.
-/
module

public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.ValueIdxCore

@[expose] public section

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-! ## The two cases of the body -/

/-- A buffer stored whole once reads back what was stored. -/
theorem read_stored {Val : EltTy → Type} [∀ e, Nonempty (Val e)] {κ : Kind} {sp : Space} {S : Shape} {e : EltTy}
    (v : View sig κ sp S e) {off : Fin S.rank → Nat} (h : off = fun _ => 0) (inb : ∀ a, off a + S.size a ≤ S.size a)
    (w : S.Idx → Val e) :
    v.read Val (v.writes Val v.junk [(⟨Rect.unit off S.size inb, w⟩ : View.Piece Val S e)]) = w := by
  rw [View.read_writes_eq_canon _ _ _ fun y => ⟨_, List.mem_singleton_self _, View.mem_set_unit_zero h inb y⟩,
    View.canon_unit_zero h]

/-- The scratch stored whole once reads back what was stored. -/
theorem read_scratch (v : View sig .tc .vmem S4096x64 .f32) (w : Vec F S4096x64 .f32) :
    v.read (Elt F) (v.writes (Elt F) v.junk
      [(⟨Rect.unit (s := S4096x64) ![0, 0] ![4096, 64] inb_S4096x64_S4096x64_0_0, w⟩ : View.Piece (Elt F) S4096x64 .f32)]) = w :=
  read_stored v z2 inb_S4096x64_S4096x64_0_0 w

/-- The 128 scratch rows a point reads. -/
def rows (i : grid0.Coords) (s : Vec F S4096x64 .f32) : Vec F S128x64 .f32 :=
  View.ld (S := S4096x64) s (Rect.unit (s := S4096x64) (k0_off1 i) S128x64.size (k0_off1_inb i))

/-- The first point leaves in the scratch the weighted one-hot matrix of its inputs. -/
theorem scratch_first (c : Dev nD) (i : grid0.Coords) (a2 : Memref sig .tc .vmem S64x64x8 .f32) (h2 : a2.IsWhole)
    (a3 : Memref sig .tc .vmem S64x8 .i32) (h3 : a3.IsWhole) (a4 : Memref sig .tc .vmem S64x8192 .f32) (h4 : a4.IsWhole)
    (a5 : Memref sig .tc .vmem S128x8192 .f32) (h5 : a5.IsWhole) (a6 : Memref sig .tc .vmem S4096x64 .f32) (h6 : a6.IsWhole)
    (hc : cond0_0 i) (w : Vec F S64x64x8 .f32) (p : Vec F S64x8 .i32) (x : Vec F S64x8192 .f32) :
    sout0_A_0 c i a2 h2 a3 h3 a4 h4 a5 h5 a6 h6 hc w p x = k0_pay1 w p := by
  unfold sout0_A_0
  rw [View.read_writes_eq_canon _ _ _ (scover0_A_0 c i a2 h2 a3 h3 a4 h4 a5 h5 a6 h6 hc w p x)]
  unfold kernelRun0_A
  dsimp only
  sl_unfold_words
  rw [View.canon_unit_zero z2]
  simp only [View.readAt_eq_ld, h2.read_unread, h3.read_unread, View.ld_unit_zero (S := S64x64x8) z3,
    View.ld_unit_zero (S := S64x8) z2]

/-- The first point writes its block from the scratch it has just filled. -/
theorem block_first (c : Dev nD) (i : grid0.Coords) (a2 : Memref sig .tc .vmem S64x64x8 .f32) (h2 : a2.IsWhole)
    (a3 : Memref sig .tc .vmem S64x8 .i32) (h3 : a3.IsWhole) (a4 : Memref sig .tc .vmem S64x8192 .f32) (h4 : a4.IsWhole)
    (a5 : Memref sig .tc .vmem S128x8192 .f32) (h5 : a5.IsWhole) (a6 : Memref sig .tc .vmem S4096x64 .f32) (h6 : a6.IsWhole)
    (hc : cond0_0 i) (w : Vec F S64x64x8 .f32) (p : Vec F S64x8 .i32) (x : Vec F S64x8192 .f32) :
    out0_A_3 c i a2 h2 a3 h3 a4 h4 a5 h5 a6 h6 hc w p x = k0_pay2 (rows i (k0_pay1 w p)) x := by
  unfold out0_A_3
  rw [View.read_writes_eq_canon _ _ _ (cover0_A_3 c i a2 h2 a3 h3 a4 h4 a5 h5 a6 h6 hc w p x)]
  unfold kernelRun0_A
  dsimp only
  sl_unfold_words
  rw [View.canon_unit_zero z2]
  simp only [View.readAt_eq_ld, h2.read_unread, h3.read_unread, h4.read_unread, View.ld_unit_zero (S := S64x64x8) z3,
    View.ld_unit_zero (S := S64x8) z2, View.ld_unit_zero (S := S64x8192) z2]
  rw [read_scratch]
  rfl

/-- Every later point writes its block from the scratch as the point before left it. -/
theorem block_later (c : Dev nD) (i : grid0.Coords) (a2 : Memref sig .tc .vmem S64x64x8 .f32) (h2 : a2.IsWhole)
    (a3 : Memref sig .tc .vmem S64x8 .i32) (h3 : a3.IsWhole) (a4 : Memref sig .tc .vmem S64x8192 .f32) (h4 : a4.IsWhole)
    (a5 : Memref sig .tc .vmem S128x8192 .f32) (h5 : a5.IsWhole) (a6 : Memref sig .tc .vmem S4096x64 .f32) (h6 : a6.IsWhole)
    (hc : ¬cond0_0 i) (w : Vec F S64x64x8 .f32) (p : Vec F S64x8 .i32) (x : Vec F S64x8192 .f32) (s : Vec F S4096x64 .f32) :
    out0_B_3 c i a2 h2 a3 h3 a4 h4 a5 h5 a6 h6 hc w p x s = k0_pay2 (rows i s) x := by
  unfold out0_B_3
  rw [View.read_writes_eq_canon _ _ _ (cover0_B_3 c i a2 h2 a3 h3 a4 h4 a5 h5 a6 h6 hc w p x s)]
  unfold kernelRun0_B
  dsimp only
  rw [View.canon_unit_zero z2]
  simp only [View.readAt_eq_ld, h4.read_unread, h6.read_unread, View.ld_unit_zero (S := S64x8192) z2]
  rfl

/-! ## The points -/

/-- The weighted one-hot matrix of the launch's inputs: what the scratch holds from the first point on. -/
def table (c : Dev nD) : Vec F S4096x64 .f32 :=
  k0_pay1 (m ((c : Thread nD τ).loc main_arg1)) (m ((c : Thread nD τ).loc main_arg2))

/-- Window 0's block is the whole weight array at every point. -/
theorem iblk_weights (c : Dev nD) (t : Fin cfg0.N) : (iblk m c 0 t : Vec F S64x64x8 .f32) = m ((c : Thread nD τ).loc main_arg1) := by
  funext j
  unfold iblk
  rw [View.read_apply]
  show V m c main_arg1 _ = _
  rw [V_main_arg1]
  refine congrArg _ (funext fun a => Fin.ext ?_)
  match a with
  | ⟨0, _⟩ => show 0 * 64 + 1 * (j 0).val = (j 0).val; omega
  | ⟨1, _⟩ => show 0 * 64 + 1 * (j 1).val = (j 1).val; omega
  | ⟨2, _⟩ => show 0 * 8 + 1 * (j 2).val = (j 2).val; omega

/-- Window 1's block is the whole index array at every point. -/
theorem iblk_indices (c : Dev nD) (t : Fin cfg0.N) : (iblk m c 1 t : Vec F S64x8 .i32) = m ((c : Thread nD τ).loc main_arg2) := by
  funext j
  unfold iblk
  rw [View.read_apply]
  show V m c main_arg2 _ = _
  rw [V_main_arg2]
  refine congrArg _ (funext fun a => Fin.ext ?_)
  match a with
  | ⟨0, _⟩ => show 0 * 64 + 1 * (j 0).val = (j 0).val; omega
  | ⟨1, _⟩ => show 0 * 8 + 1 * (j 1).val = (j 1).val; omega

/-- The scratch holds the table after every point. -/
theorem scratch_eq (c : Dev nD) : ∀ (n : ℕ) (h : n < cfg0.N), (outsAt0 m c n h).2 = table m c
  | 0, h => by
    rw [outsAt0_A m c ⟨0, h⟩ rfl]
    dsimp only
    rw [scratch_first, iblk_weights, iblk_indices]
    rfl
  | n + 1, h => by
    have hN : cfg0.N = 64 := N_0
    have hB : ¬(⟨n + 1, h⟩ : Fin cfg0.N).val % 64 = 0 := by dsimp only; omega
    rw [outsAt0_B m c ⟨n + 1, h⟩ hB]
    exact scratch_eq c n (Nat.lt_of_succ_lt h)

/-- What every point leaves in the output's staging buffer: the product of its rows of the table with its block of the
    transposed input. -/
theorem block_eq (c : Dev nD) (t : Fin cfg0.N) :
    (outsAt0 m c t.val t.isLt).1 = k0_pay2 (rows (grid0.coords t) (table m c)) (iblk m c 2 t : Vec F S64x8192 .f32) := by
  by_cases h0 : t.val % 64 = 0
  · rw [outsAt0_A m c t h0]
    dsimp only
    rw [block_first, iblk_weights, iblk_indices]
    rfl
  · rw [outsAt0_B m c t h0]
    dsimp only
    rw [block_later, scratch_eq]

end Cert.KernelIdeal.Region

end
-- ==== Proof.Math.lean ====
/-
  The arithmetic of the claim, over the extended reals: a row of one-hot columns weighted by `w` and summed against a
  vector `x` is the sum of the `x` entries the columns point at, weighted by `w`.
-/
module

public import Mathlib.Data.EReal.Operations
public import Mathlib.Algebra.BigOperators.Group.Finset.Basic
public import Mathlib.Algebra.BigOperators.Ring.Finset
public import Mathlib.Data.Fintype.Basic
public import Mathlib.Data.Fintype.BigOperators

@[expose] public section

noncomputable section

open scoped BigOperators

namespace Cert.Proof.Math

/-- A finite extended real is a real. -/
theorem exists_real {a : EReal} (h : a ≠ ⊤ ∧ a ≠ ⊥) : ∃ r : ℝ, a = (r : EReal) :=
  ⟨a.toReal, (EReal.coe_toReal h.1 h.2).symm⟩

/-- A sum of reals, read as extended reals, is the extended real of their sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real terms times a real factor distributes. -/
theorem sum_mul_of_real {n : ℕ} (a : Fin n → ℝ) (y : ℝ) :
    (∑ c, (a c : EReal)) * (y : EReal) = ∑ c, (a c : EReal) * (y : EReal) := by
  rw [← coe_sum, ← EReal.coe_mul, Finset.sum_mul, coe_sum]
  exact Finset.sum_congr rfl fun c _ => EReal.coe_mul _ _

/-- A sum with at most one nonzero term distributes over any factor, infinite ones included. -/
theorem sum_mul_of_single {n : ℕ} (a : Fin n → EReal) (y : EReal)
    (h : ∀ c d, a c ≠ 0 → a d ≠ 0 → c = d) : (∑ c, a c) * y = ∑ c, a c * y := by
  by_cases hz : ∀ c, a c = 0
  · simp [hz]
  · obtain ⟨c, hc⟩ := not_forall.mp hz
    have hd : ∀ d, d ≠ c → a d = 0 := fun d hdc => by
      by_contra hne
      exact hdc (h d c hne hc)
    rw [Finset.sum_eq_single c (fun d _ hdc => hd d hdc) (fun hc' => absurd (Finset.mem_univ c) hc'),
      Finset.sum_eq_single c (fun d _ hdc => by rw [hd d hdc, zero_mul]) (fun hc' => absurd (Finset.mem_univ c) hc')]

/-- The weight a one-hot column `p` puts at position `k`. -/
def hot {N : ℕ} (p k : Fin N) : EReal := if p = k then 1 else 0

/-- For one position `k`, the weighted one-hot sum distributes over `x k`. -/
theorem hot_sum_mul {n N : ℕ} (w : Fin n → EReal) (x : Fin N → EReal) (p : Fin n → Fin N)
    (h : Function.Injective p ∨ ((∀ c, w c ≠ ⊤ ∧ w c ≠ ⊥) ∧ ∀ k, x k ≠ ⊤ ∧ x k ≠ ⊥)) (k : Fin N) :
    (∑ c, w c * hot (p c) k) * x k = ∑ c, w c * hot (p c) k * x k := by
  rcases h with hp | ⟨hw, hx⟩
  · refine sum_mul_of_single _ _ fun c d hc hd => hp ?_
    have hk : ∀ e, w e * hot (p e) k ≠ 0 → p e = k := fun e he => by
      by_contra hne
      exact he (by rw [hot, if_neg hne, mul_zero])
    rw [hk c hc, hk d hd]
  · obtain ⟨y, hy⟩ := exists_real (hx k)
    choose v hv using fun c => exists_real (hw c)
    have e : ∀ c, w c * hot (p c) k = ((v c * (if p c = k then 1 else 0) : ℝ) : EReal) := fun c => by
      rw [hv, hot]
      split <;> simp
    simp only [e, hy]
    exact sum_mul_of_real _ _

/-- THE IDENTITY: the one-hot matrix of `p`, weighted by `w` along its columns and summed against `x`, is the sum of
    `x` at `p`'s values weighted by `w` — when `p` names no position twice, or every weight and entry is finite. -/
theorem onehot_sum {n N : ℕ} (w : Fin n → EReal) (x : Fin N → EReal) (p : Fin n → Fin N)
    (h : Function.Injective p ∨ ((∀ c, w c ≠ ⊤ ∧ w c ≠ ⊥) ∧ ∀ k, x k ≠ ⊤ ∧ x k ≠ ⊥)) :
    ∑ k, (∑ c, w c * hot (p c) k) * x k = ∑ c, x (p c) * w c := by
  rw [Finset.sum_congr rfl fun k _ => hot_sum_mul w x p h k, Finset.sum_comm]
  refine Finset.sum_congr rfl fun c _ => ?_
  rw [Finset.sum_eq_single (p c) (fun k _ hk => by rw [hot, if_neg (Ne.symm hk), mul_zero, zero_mul])
    (fun hc => absurd (Finset.mem_univ _) hc), hot, if_pos rfl, mul_one]
  exact EReal.mul_comm _ _

end Cert.Proof.Math

end
-- ==== Proof.Block.lean ====
/-
  The kernel's two computed values read at an index, over the extended reals: the one-hot table is a sum over the eight
  genes of a gate, and an output block is a sum over the 64 genes.
-/
module

public import proofs.«01_k».proof.Proof.Math
public import proofs.«01_k».proof.Proof.Gen.KernelIdeal.Skeleton
public import Idealize.ShloMosaic.Lib.Pipeline.Value
public import Idealize.ShloMosaic.Lib.ValueIdx
public import Idealize.ShloMosaic.Lib.DynamicIndex
public import Idealize.ShloMosaic.PureOps.Ideal.Laws

@[expose] public section

noncomputable section

open scoped BigOperators

namespace Cert.KernelIdeal.Block

open Cert.KernelIdeal Cert.KernelIdeal.Gen Idealize.ShloMosaic Idealize.ShloMosaic.ValueIdx
open Cert.Proof.Math (hot)

/-- The product a point stores, at row `r` and column `v`: the row of the table against the column of the input. -/
theorem product_apply (a : Vec Ideal S128x64 .f32) (x : Vec Ideal S64x8192 .f32) (r : Fin 128) (v : Fin 8192) :
    k0_pay2 a x (ix2 r v) = ∑ k : Fin 64, a (ix2 r k) * x (ix2 k v) := by
  unfold k0_pay2
  simp only [shapeCast_self, matmul]
  rw [Ideal.matmul_constant_zero_apply,
    ← Equiv.sum_comp (contrEquiv1 dot_S128x64_S64x8192_S128x8192_1_0_0_1_n_n 64 rfl rfl).symm]
  refine Finset.sum_congr rfl fun k _ => ?_
  have hk := contrEquiv1_symm_val dot_S128x64_S64x8192_S128x8192_1_0_0_1_n_n 64 rfl rfl k
  refine congrArg₂ (· * ·) (congrArg a (funext fun d => Fin.ext ?_)) (congrArg x (funext fun d => Fin.ext ?_))
  · match d with
    | ⟨0, _⟩ => rfl
    | ⟨1, _⟩ => exact (dot_S128x64_S64x8192_S128x8192_1_0_0_1_n_n.lhsIdx_val_of_single rfl _ _).trans hk
  · match d with
    | ⟨0, _⟩ => exact (dot_S128x64_S64x8192_S128x8192_1_0_0_1_n_n.rhsIdx_val_of_single rfl _ _).trans hk
    | ⟨1, _⟩ => rfl

/-- The comparison of an index word with a position, widened and converted: one where they agree, zero elsewhere. -/
theorem hot_word (q : BitVec 32) (p k : Fin 64) (hq : q.toInt = (p.val : Int)) :
    (FloatOps.sitofp .f32 ((IntOp.cmpi .eq q (BitVec.ofNat 32 k.val)).setWidth 32) : Ideal .f32) = hot p k := by
  have hk : (BitVec.ofNat 32 k.val).toInt = (k.val : Int) := toInt_ofNat_of_lt (by have := k.isLt; omega)
  show ((((IntOp.cmpi .eq q (BitVec.ofNat 32 k.val)).setWidth 32).toInt : ℝ) : EReal) = hot p k
  by_cases h : p = k
  · subst h
    have e : IntOp.cmpi .eq q (BitVec.ofNat 32 p.val) = 1#1 := IntOp.cmpi_eq.mpr (BitVec.eq_of_toInt_eq (hq.trans hk.symm))
    rw [e, hot, if_pos rfl, show ((1#1).setWidth 32).toInt = 1 from by decide]
    simp
  · have e : IntOp.cmpi .eq q (BitVec.ofNat 32 k.val) = 0#1 := eq_zero_of_ne_one fun h1 => h (Fin.ext (by
      have := congrArg BitVec.toInt (IntOp.cmpi_eq.mp h1)
      rw [hq, hk] at this
      exact_mod_cast this))
    rw [e, hot, if_neg h, show ((0#1).setWidth 32).toInt = 0 from by decide]
    simp

/-- The table at row `64 g + v` and column `k`: the weights of output `v` of gate `g`, each counted where its index is
    `k` (`p` names the indices as positions). -/
theorem table_apply (w : Vec Ideal S64x64x8 .f32) (q : Vec Ideal S64x8 .i32) (p : Fin 64 → Fin 8 → Fin 64)
    (hq : ∀ g c, (q (ix2 g c) : BitVec 32).toInt = ((p g c).val : Int)) (g v k : Fin 64) (R : Fin 4096)
    (hR : R.val = g.val * 64 + v.val) :
    k0_pay1 w q (ix2 R k) = ∑ c : Fin 8, w (ix3 g v c) * hot (p g c) k := by
  unfold k0_pay1
  simp only [shapeCast_self, matmul]
  rw [shapeCast_apply _ _ (ix2 R k) (ix3 g v k) (by
      rw [Shape.rowMajor_val_three, Shape.rowMajor_val_two]
      show (g.val * 64 + v.val) * 64 + k.val = R.val * 64 + k.val
      rw [hR]),
    Ideal.matmul_constant_zero_apply,
    ← Equiv.sum_comp (contrEquiv1 dot_S64x64x8_S64x8x64_S64x64x64_2_1_1_2_0_0 8 rfl rfl).symm]
  refine Finset.sum_congr rfl fun c _ => ?_
  have hc := contrEquiv1_symm_val dot_S64x64x8_S64x8x64_S64x64x64_2_1_1_2_0_0 8 rfl rfl c
  refine congrArg₂ (· * ·) (congrArg w (funext fun d => Fin.ext ?_)) ?_
  · match d with
    | ⟨0, _⟩ => rfl
    | ⟨1, _⟩ => rfl
    | ⟨2, _⟩ => exact (dot_S64x64x8_S64x8x64_S64x64x64_2_1_1_2_0_0.lhsIdx_val_of_single rfl _ _).trans hc
  · have e : dot_S64x64x8_S64x8x64_S64x64x64_2_1_1_2_0_0.rhsIdx (ix3 g v k)
        ((contrEquiv1 dot_S64x64x8_S64x8x64_S64x64x64_2_1_1_2_0_0 8 rfl rfl).symm c) = ix3 g c k :=
      funext fun d => Fin.ext (by
        match d with
        | ⟨0, _⟩ => rfl
        | ⟨1, _⟩ => exact (dot_S64x64x8_S64x8x64_S64x64x64_2_1_1_2_0_0.rhsIdx_val_of_single rfl _ _).trans hc
        | ⟨2, _⟩ => rfl)
    rw [e]
    refine Eq.trans ?_ (hot_word (q (ix2 g c)) (p g c) k (hq g c))
    show FloatOps.sitofp .f32 ((IntOp.cmpi .eq (broadcastTo S64x8x64 (shapeCast S64x8x1 q shapeCasts_S64x8_S64x8x1) broadcasts_S64x8x1_S64x8x64 (ix3 g c k))
      (iota .tc S64x8x64 32 [2] iota_S64x8x64_d2_w32 (ix3 g c k))).setWidth 32) = _
    rw [iota_single_apply, broadcastTo_apply _ _ (ix3 g c k) (ix3 g c (0 : Fin 1)) (fun d => by
        match d with
        | ⟨0, _⟩ => rfl
        | ⟨1, _⟩ => rfl
        | ⟨2, _⟩ => rfl),
      shapeCast_apply _ _ (ix3 g c (0 : Fin 1)) (ix2 g c) (by
        rw [Shape.rowMajor_val_three, Shape.rowMajor_val_two]
        show g.val * 8 + c.val = (g.val * 8 + c.val) * 1 + 0
        omega)]

end Cert.KernelIdeal.Block

end
-- ==== Proof.Array.lean ====
/-
  The region's result array at the end, over the extended reals: entry (R, v) is row R of the one-hot table against
  column v of the transposed input. Each point's block is that array read through the block, and the blocks tile it.
-/
module

public import proofs.«01_k».proof.Proof.Region
public import proofs.«01_k».proof.Proof.Block

@[expose] public section

noncomputable section

open scoped BigOperators

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-- Where each point reads and writes: point `t` takes row block `t % 32` of the table and column block `t / 32`. -/
theorem places : ∀ t : Fin cfg0.N,
    win0_3.index t 0 = t.val % 32 ∧ win0_3.index t 1 = t.val / 32 ∧ win0_2.index t 0 = 0 ∧ win0_2.index t 1 = t.val / 32
      ∧ k0_off1 (grid0.coords t) 0 = t.val % 32 * 128 ∧ k0_off1 (grid0.coords t) 1 = 0 :=
  (by decide +kernel : ∀ t : Fin grid0.N,
    win0_3.index t 0 = t.val % 32 ∧ win0_3.index t 1 = t.val / 32 ∧ win0_2.index t 0 = 0 ∧ win0_2.index t 1 = t.val / 32
      ∧ k0_off1 (grid0.coords t) 0 = t.val % 32 * 128 ∧ k0_off1 (grid0.coords t) 1 = 0)

/-- The rows point `t` reads, at an index: rows `128 (t % 32)` and on of the scratch. -/
theorem rows_apply (t : Fin cfg0.N) (s : Vec Ideal S4096x64 .f32) (r : Fin 128) (k : Fin 64) (R : Fin 4096)
    (hR : R.val = t.val % 32 * 128 + r.val) : rows (grid0.coords t) s (ix2 r k) = s (ix2 R k) := by
  obtain ⟨-, -, -, -, h0, h1⟩ := places t
  unfold rows
  rw [View.ld_unit]
  refine extractStridedSlice_apply _ _ _ _ _ fun a => ?_
  match a with
  | ⟨0, _⟩ => show R.val = k0_off1 (grid0.coords t) 0 + r.val; rw [h0, hR]
  | ⟨1, _⟩ => show k.val = k0_off1 (grid0.coords t) 1 + k.val; rw [h1]; omega

/-- The transposed input's block at point `t`, at an index: columns `8192 (t / 32)` and on. -/
theorem columns_apply (c : Dev nD) (t : Fin cfg0.N) (k : Fin 64) (v : Fin 8192) (B : Fin 16384)
    (hB : B.val = t.val / 32 * 8192 + v.val) :
    (iblk m c 2 t : Vec Ideal S64x8192 .f32) (ix2 k v) = (V m c main_call0_v0 : Vec Ideal S64x16384 .f32) (ix2 k B) := by
  obtain ⟨-, -, h0, h1, -, -⟩ := places t
  unfold iblk
  rw [View.read_apply]
  show V m c main_call0_v0 _ = _
  refine congrArg (V m c main_call0_v0) (funext fun a => Fin.ext ?_)
  match a with
  | ⟨0, _⟩ => show win0_2.index t 0 * 64 + 1 * k.val = k.val; rw [h0]; omega
  | ⟨1, _⟩ => show win0_2.index t 1 * 8192 + 1 * v.val = B.val; rw [h1, hB]; omega

/-- The region's result: the table times the transposed input. -/
def product (c : Dev nD) : Vec Ideal S4096x16384 .f32 := fun i =>
  ∑ k : Fin 64, table m c (ix2 (i 0) k) * (V m c main_call0_v0 : Vec Ideal S64x16384 .f32) (ix2 k (i 1))

/-- What point `t` writes back is the product read through its block. -/
theorem flushed_eq (c : Dev nD) (t : Fin cfg0.N) (hf : (cfg0.win 3).flush t = true) :
    (dats m 0 c).flushed 3 t = ((cfg0.win 3).blk t).view.read (Elt Ideal) (product m c) := by
  obtain ⟨h0, h1, -, -, -, -⟩ := places t
  have hN : cfg0.N = 64 := N_0
  have ht := t.isLt
  show (cfg0.win 3).cut (grid0.coords t) ((dats m 0 c).after 3 t) = _
  rw [after0_3, block_eq]
  funext j
  rw [View.read_apply]
  have hj0 : (j 0).val < 128 := (j 0).isLt
  have hj1 : (j 1).val < 8192 := (j 1).isLt
  have e0 : ((((cfg0.win 3).blk t).view.emb j) 0).val = t.val % 32 * 128 + (j 0).val := by
    show win0_3.index t 0 * 128 + 1 * (j 0).val = _
    rw [h0]; omega
  have e1 : ((((cfg0.win 3).blk t).view.emb j) 1).val = t.val / 32 * 8192 + (j 1).val := by
    show win0_3.index t 1 * 8192 + 1 * (j 1).val = _
    rw [h1]; omega
  show k0_pay2 (rows (grid0.coords t) (table m c)) (iblk m c 2 t : Vec Ideal S64x8192 .f32) (ix2 (⟨(j 0).val, hj0⟩ : Fin 128) (⟨(j 1).val, hj1⟩ : Fin 8192)) = _
  rw [Block.product_apply]
  show _ = product m c (((cfg0.win 3).blk t).view.emb j)
  unfold product
  refine Finset.sum_congr rfl fun k _ => ?_
  exact congrArg₂ (· * ·) (rows_apply t (table m c) ⟨(j 0).val, hj0⟩ k ((((cfg0.win 3).blk t).view.emb j) 0) e0)
    (columns_apply m c t k ⟨(j 1).val, hj1⟩ ((((cfg0.win 3).blk t).view.emb j) 1) e1)

/-- Every entry of the array is in the block of some point. -/
theorem covered (i : S4096x16384.Idx) : ∃ t : Fin cfg0.N, (cfg0.win 3).flush t = true ∧ i ∈ ((cfg0.win 3).blk t).view.set := by
  have hN : cfg0.N = 64 := N_0
  have hi0 : (i 0).val < 4096 := (i 0).isLt
  have hi1 : (i 1).val < 16384 := (i 1).isLt
  let t : Fin cfg0.N := ⟨(i 1).val / 8192 * 32 + (i 0).val / 128, by omega⟩
  obtain ⟨h0, h1, -, -, -, -⟩ := places t
  have ht : t.val = (i 1).val / 8192 * 32 + (i 0).val / 128 := rfl
  refine ⟨t, flush0_3 t, ?_⟩
  show i ∈ ((View.whole main_call0_v1).slice (win0_3.rect t)).set
  rw [View.set_slice_whole, Rect.mem_set_unit]
  intro a
  match a with
  | ⟨0, _⟩ =>
    show win0_3.index t 0 * 128 ≤ (i 0).val ∧ (i 0).val < win0_3.index t 0 * 128 + 128
    rw [h0]; omega
  | ⟨1, _⟩ =>
    show win0_3.index t 1 * 8192 ≤ (i 1).val ∧ (i 1).val < win0_3.index t 1 * 8192 + 8192
    rw [h1]; omega

/-- The result array ends holding the product. -/
theorem final_eq (c : Dev nD) : (dats m 0 c).arrAt 3 cfg0.N = product m c :=
  (dats m 0 c).arrAt_eq_of_cover 3 (product m c) (flushed_eq m c) covered

end Cert.KernelIdeal.Region

end
-- ==== Proof.Tail.lean ====
/-
  The kernel's run read at its result: the host lines before the region transpose the input, those after it reshape and
  transpose the region's array, so entry (b, g, v) of the result is row 64 g + v of the table against sample b.
-/
module

public import proofs.«01_k».proof.Proof.Array

@[expose] public section

noncomputable section

open scoped BigOperators

namespace Cert.KernelIdeal.Tail

open Cert.KernelIdeal Cert.KernelIdeal.Gen Cert.KernelIdeal.Region Idealize.ShloMosaic Idealize.ShloMosaic.TcCoe
open Idealize.SL.Sem Idealize.ShloMosaic.StableHlo Idealize.ShloMosaic.ValueIdx

variable (m : (ℓ : Loc nD τ sig) → Buf (Elt Ideal) ℓ) (ρ : Dev nD → PrngReg)

/-- The region finds the input transposed. -/
theorem transposed (c : Dev nD) : (V m c main_call0_v0 : Vec Ideal S64x16384 .f32)
    = transpose S64x16384 [1, 0] (m ((c : Thread nD τ).loc main_arg0)) transposes_S16384x64_S64x16384_1_0 := by
  show StableHlo.after (List.flatten [hostOps0]) (fun b => m (c, b)) (Proc.devRef .tc main_call0_v0) = _
  simp only [List.flatten_cons, List.flatten_nil, List.append_nil, hostOps0]
  after_results
  rfl

/-- The transposed input at gene `k` and sample `b`. -/
theorem transposed_apply (c : Dev nD) (k : Fin 64) (b : Fin 16384) :
    (V m c main_call0_v0 : Vec Ideal S64x16384 .f32) (ix2 k b) = (m ((c : Thread nD τ).loc main_arg0) : Vec Ideal S16384x64 .f32) (ix2 b k) := by
  rw [transposed]
  refine transpose_apply _ _ _ _ _ fun a => ?_
  match a with
  | ⟨0, _⟩ => rfl
  | ⟨1, _⟩ => rfl

/-- The result the program returns: the region's product, reshaped and transposed. -/
def result (c : Dev nD) : Vec Ideal S16384x64x64 .f32 :=
  transpose S16384x64x64 [2, 0, 1] (shapeCast S64x64x16384 (product m c) shapeCasts_S4096x16384_S64x64x16384)
    transposes_S64x64x16384_S16384x64x64_2_0_1

/-- The host lines after the region leave that in the result buffer. -/
theorem tail_eq (c : Dev nD) :
    (Pipeline.afterTail₀ cfgs (dats m) 0 (V0 m) [hostOps1] c main_v0 : Vec Ideal S16384x64x64 .f32) = result m c := by
  have hw : Pipeline.withArrays (cfgs 0).spec c (V0 m c) (fun w => (dats m 0 c).arrAt w (cfgs 0).N)
      (Proc.devRef .tc main_call0_v1) = product m c :=
    (Pipeline.withArrays_arr _ launch0.win.arr_inj c (V0 m c) _ 3).trans (final_eq m c)
  unfold Pipeline.afterTail₀ result
  rw [← hw]
  generalize Pipeline.withArrays (cfgs 0).spec c (V0 m c) (fun w => (dats m 0 c).arrAt w (cfgs 0).N) = W
  simp only [List.flatten_cons, List.flatten_nil, List.append_nil, hostOps1]
  after_results
  rfl

/-- Entry (b, g, v) of the result. -/
theorem result_apply (c : Dev nD) (b : Fin 16384) (g v : Fin 64) (R : Fin 4096) (hR : R.val = g.val * 64 + v.val) :
    result m c (ix3 b g v)
      = ∑ k : Fin 64, table m c (ix2 R k) * (m ((c : Thread nD τ).loc main_arg0) : Vec Ideal S16384x64 .f32) (ix2 b k) := by
  unfold result
  rw [transpose_apply _ _ _ (ix3 b g v) (ix3 g v b) (fun a => by
      match a with
      | ⟨0, _⟩ => rfl
      | ⟨1, _⟩ => rfl
      | ⟨2, _⟩ => rfl),
    shapeCast_apply _ _ (ix3 g v b) (ix2 R b) (by
      rw [Shape.rowMajor_val_three, Shape.rowMajor_val_two]
      show R.val * 16384 + b.val = (g.val * 64 + v.val) * 16384 + b.val
      rw [hR])]
  exact Finset.sum_congr rfl fun k _ => congrArg (table m c (ix2 R k) * ·) (transposed_apply m c k b)

/-- THE KERNEL'S RUN: it ends with that result and its arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v0 (Pipeline.mem_restRefs_of main_v0 (by decide) (by decide))).trans (tail_eq m c), h.2 c⟩)
    (θ_run_and (run_main m ρ) (unchanged m ρ))

end Cert.KernelIdeal.Tail

end
-- ==== Proof.Indices.lean ====
/-
  The precondition read back: every index names one of the 64 genes, and either the eight indices of every gate are
  distinct or all weights and inputs are finite.
-/
module

public import proofs.«01_k».proof.Pre_indices_fit_and_sums_regroup
public import Idealize.ShloMosaic.Lib.Pipeline.Value
public import Idealize.ShloMosaic.Lib.ValueIdx
public import Idealize.ShloMosaic.Lib.ReduceAll
public import Idealize.ShloMosaic.Lib.Affine
public import Idealize.ShloMosaic.Lib.DynamicIndex
public import Idealize.ShloMosaic.PureOps.Ideal.Laws

@[expose] public section

noncomputable section

namespace Cert.Pre_indices_fit_and_sums_regroup

open Idealize.ShloMosaic Idealize.ShloMosaic.ValueIdx

/-- The shape relations the precondition's operations take. -/
instance facts : Facts where
  bcast_S_S64x8 := by decide
  reducesTo_S64x8_S_d0_1 := by decide
  h_S_ := by decide
  bcast_S64x8_S64x8x1_0_1 := by decide
  bcast_S64x8_S64x1x8_0_2 := by decide
  bcast_S64x8x1_S64x8x8_0_1_2 := by decide
  bcast_S64x1x8_S64x8x8_0_1_2 := by decide
  reducesTo_S64x8x8_S_d0_1_2 := by decide
  bcast_S_S16384x64 := by decide
  reducesTo_S16384x64_S_d0_1 := by decide
  bcast_S_S64x64x8 := by decide
  reducesTo_S64x64x8_S_d0_1_2 := by decide

instance : Subsingleton S_.Idx := ⟨fun a b => funext fun d => d.elim0⟩

/-- An extended real whose absolute value is below infinity is finite. -/
theorem finite_of_lt (a : EReal) (h : Ideal.cmp .olt (max a (-a)) (Ideal.ofBits .f32 0x7F800000#32) = 1#1) :
    a ≠ ⊤ ∧ a ≠ ⊥ := by
  have ht : Ideal.ofBits .f32 0x7F800000#32 = ⊤ := by simp [Ideal.ofBits, Ideal.ieee]
  rw [ht] at h
  have hlt : max a (-a) < ⊤ := by
    by_contra hne
    simp [Ideal.cmp, hne] at h
  constructor
  · rintro rfl
    simp at hlt
  · rintro rfl
    simp at hlt

section
variable (x : FVec Ideal S16384x64 .f32) (w : FVec Ideal S64x64x8 .f32) (q : IVec S64x8 32)

/-- THE PRECONDITION READ BACK, at the words and the extended reals. -/
theorem read (h : fn (F := Ideal) x w q (fun a => a.elim0) = 1#1) :
    (∀ g c, 0 ≤ (q (ix2 g c)).toInt ∧ (q (ix2 g c)).toInt < 64)
      ∧ ((∀ g c d, q (ix2 g c) = q (ix2 g d) → c = d)
        ∨ ((∀ i, w i ≠ ⊤ ∧ w i ≠ ⊥) ∧ ∀ i, x i ≠ ⊤ ∧ x i ≠ ⊥)) := by
  unfold fn fn_part1 at h
  dsimp only at h
  obtain ⟨hr, hd⟩ := IntOp.andi_eq_one.mp h
  refine ⟨fun g c => ?_, ?_⟩
  · obtain ⟨hl, hu⟩ := IntOp.andi_eq_one.mp (Host.reduce_andi_all _ _ _ _ _ hr (ix2 g c))
    exact ⟨IntOp.cmpi_sge.mp hl, IntOp.cmpi_slt.mp hu⟩
  · rcases IntOp.ori_eq_one.mp hd with hi | hf
    · refine Or.inl fun g c d hcd => ?_
      rcases IntOp.ori_eq_one.mp (Host.reduce_andi_all _ _ _ _ _ hi (ix3 g c d)) with hne | heq
      · refine absurd ?_ (IntOp.cmpi_ne.mp hne)
        rw [broadcastInDim_apply _ _ _ (ix3 g c d) (ix3 g c (0 : Fin 1)) (fun a => by
            match a with
            | ⟨0, _⟩ => rfl
            | ⟨1, _⟩ => rfl
            | ⟨2, _⟩ => rfl),
          broadcastInDim_apply _ _ _ (ix3 g c d) (ix3 g (0 : Fin 1) d) (fun a => by
            match a with
            | ⟨0, _⟩ => rfl
            | ⟨1, _⟩ => rfl
            | ⟨2, _⟩ => rfl),
          broadcastInDim_apply _ _ _ (ix3 g c (0 : Fin 1)) (ix2 g c) (fun a => by
            match a with
            | ⟨0, _⟩ => rfl
            | ⟨1, _⟩ => rfl),
          broadcastInDim_apply _ _ _ (ix3 g (0 : Fin 1) d) (ix2 g d) (fun a => by
            match a with
            | ⟨0, _⟩ => rfl
            | ⟨1, _⟩ => rfl)]
        exact hcd
      · have e : (BitVec.ofNat 32 c.val) = BitVec.ofNat 32 d.val := IntOp.cmpi_eq.mp heq
        have e' := congrArg BitVec.toInt e
        rw [toInt_ofNat_of_lt (by have := c.isLt; omega), toInt_ofNat_of_lt (by have := d.isLt; omega)] at e'
        exact Fin.ext (by exact_mod_cast e')
    · obtain ⟨hx, hw⟩ := IntOp.andi_eq_one.mp hf
      exact Or.inr ⟨fun i => finite_of_lt _ (Host.reduce_andi_all _ _ _ _ _ hw i),
        fun i => finite_of_lt _ (Host.reduce_andi_all _ _ _ _ _ hx i)⟩

end

end Cert.Pre_indices_fit_and_sums_regroup

end
-- ==== Proof.Reference.lean ====
/-
  The reference's result read at an index, over the extended reals: entry (b, g, v) is the sum, over the eight genes of
  gate g, of that gene's input in sample b times its weight for output v.
-/
module

public import proofs.«01_k».proof.Proof.Gen.ReferenceIdeal.Read
public import Idealize.ShloMosaic.Lib.DynamicIndex
public import Idealize.ShloMosaic.Lib.Affine

@[expose] public section

noncomputable section

open scoped BigOperators

namespace Cert.ReferenceIdeal.Sum

open Cert.ReferenceIdeal Cert.ReferenceIdeal.Gen Cert.ReferenceIdeal.Read Idealize.ShloMosaic Idealize.ShloMosaic.ValueIdx

/-- The gather's dimension numbers. -/
abbrev dims : GatherDims S16384x64 S64x8x1 S16384x64x8 := gather_S16384x64_S64x8x1_S16384x64x8_0_1_n_n_1_2_163841

/-- An index that is not negative is left as it is by the wrap of negative indices. -/
theorem wrapped (q : IVec S64x8 32) (g : Fin 64) (c : Fin 8) (h : 0 ≤ (q (ix2 g c)).toInt) :
    val_main_v5 (F := Ideal) q (ix3 g c (0 : Fin 1)) = q (ix2 g c) := by
  rw [val_main_v5_apply, val_main_v4_apply, val_main_v1_apply, val_main_v0_apply, val_main_c_apply]
  have e : idx_main_v5 (ix3 g c (0 : Fin 1)) = ix2 g c := funext fun a => Fin.ext (by
    match a with
    | ⟨0, _⟩ => rfl
    | ⟨1, _⟩ => rfl)
  rw [e, eq_zero_of_ne_one (b := IntOp.cmpi .slt (q (ix2 g c)) 0#32) fun h1 => by
    have := IntOp.cmpi_slt.mp h1
    rw [BitVec.toInt_zero] at this
    omega]
  rfl

/-- The gathered inputs: sample `b`'s input at the gene that index `c` of gate `g` names. -/
theorem gathered (x : FVec Ideal S16384x64 .f32) (q : IVec S64x8 32) (b : Fin 16384) (g : Fin 64) (c : Fin 8)
    (p : Fin 64) (hp : (q (ix2 g c)).toInt = (p.val : Int)) :
    val_main_v6 (F := Ideal) x q (ix3 b g c) = x (ix2 b p) := by
  have hw : val_main_v5 (F := Ideal) q (ix3 g c (0 : Fin 1)) = q (ix2 g c) := wrapped q g c (by omega)
  unfold val_main_v6 Host.gather
  refine congrArg x (funext fun a => Fin.ext ?_)
  show dims.start (ix3 b g c) (val_main_v5 (F := Ideal) q) a + dims.batchCoord (ix3 b g c) a + dims.offCoord (ix3 b g c) a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · unfold GatherDims.start GatherDims.offCoord
    rw [dif_neg (show (0 : Fin 2) ∉ dims.startIndexMap by decide), dif_pos (show (0 : Fin 2) ∈ dims.sKept by decide)]
    show 0 + 0 + b.val = b.val
    omega
  · rw [GatherDims.offCoord_eq_zero _ _ _ (show (1 : Fin 2) ∉ dims.sKept by decide)]
    unfold GatherDims.start
    rw [dif_pos (show (1 : Fin 2) ∈ dims.startIndexMap by decide)]
    have hs : dims.siIdx (ix3 b g c) ⟨List.idxOf (1 : Fin 2) dims.startIndexMap,
        List.idxOf_lt_length_iff.2 (show (1 : Fin 2) ∈ dims.startIndexMap by decide)⟩ = ix3 g c (0 : Fin 1) :=
      funext fun d => Fin.ext (by
        match d with
        | ⟨0, _⟩ => rfl
        | ⟨1, _⟩ => rfl
        | ⟨2, _⟩ => rfl)
    rw [hs, hw, hp]
    show min (p.val : Int).toNat (64 - 1) + 0 + 0 = p.val
    have := p.isLt
    omega

/-- THE REFERENCE'S RESULT at (b, g, v). -/
theorem result_apply (x : FVec Ideal S16384x64 .f32) (w : FVec Ideal S64x64x8 .f32) (q : IVec S64x8 32)
    (p : Fin 64 → Fin 8 → Fin 64) (hq : ∀ g c, (q (ix2 g c)).toInt = ((p g c).val : Int))
    (b : Fin 16384) (g v : Fin 64) :
    val_main_v8 (F := Ideal) x w q (ix3 b g v) = ∑ c : Fin 8, x (ix2 b (p g c)) * w (ix3 g v c) := by
  rw [val_main_v8_apply, val_main_v7_apply]
  refine Finset.sum_congr rfl fun c _ => ?_
  refine congrArg₂ (· * ·) ?_ (congrArg w (funext fun a => Fin.ext ?_))
  · rw [← gathered x q b g c (p g c) (hq g c)]
    refine congrArg _ (funext fun a => Fin.ext ?_)
    match a with
    | ⟨0, _⟩ => rfl
    | ⟨1, _⟩ => rfl
    | ⟨2, _⟩ => rfl
  · match a with
    | ⟨0, _⟩ => rfl
    | ⟨1, _⟩ => rfl
    | ⟨2, _⟩ => rfl

end Cert.ReferenceIdeal.Sum

end
-- ==== Proof.Equal.lean ====
/-
  The two programs' results are one array: under the precondition the kernel's entry (b, g, v), a one-hot table row
  against a sample, is the reference's sum over the group's eight genes.
-/
module

public import proofs.«01_k».proof.Proof.Tail
public import proofs.«01_k».proof.Proof.Indices
public import proofs.«01_k».proof.Proof.Reference
public import proofs.«01_k».proof.Proof.Math
public import proofs.«01_k».proof.Proof.Block
public import proofs.«01_k».proof.Proof.Gen.ReferenceIdeal.Run
public import Idealize.ShloMosaic.Lib.Quiescent

@[expose] public section

noncomputable section

open scoped BigOperators

namespace Cert.Proof.Equal

open Idealize.ShloMosaic Idealize.ShloMosaic.TcCoe Idealize.SL.Sem Idealize.ShloMosaic.ValueIdx

/-- Under the precondition the kernel's result is the reference's value of the same three arguments. -/
theorem result_eq (m : (ℓ : Loc Cert.KernelIdeal.nD Cert.KernelIdeal.τ Cert.KernelIdeal.sig) → Buf (Elt Ideal) ℓ)
    (c : Dev Cert.KernelIdeal.nD)
    (x : Vec Ideal Cert.KernelIdeal.S16384x64 .f32) (w : Vec Ideal Cert.KernelIdeal.S64x64x8 .f32) (q : Vec Ideal Cert.KernelIdeal.S64x8 .i32)
    (hx : m ((c.tc : Thread Cert.KernelIdeal.nD Cert.KernelIdeal.τ).loc Cert.KernelIdeal.main_arg0) = x)
    (hw : m ((c.tc : Thread Cert.KernelIdeal.nD Cert.KernelIdeal.τ).loc Cert.KernelIdeal.main_arg1) = w)
    (hq : m ((c.tc : Thread Cert.KernelIdeal.nD Cert.KernelIdeal.τ).loc Cert.KernelIdeal.main_arg2) = q)
    (h : Cert.Pre_indices_fit_and_sums_regroup.fn (F := Ideal) x w q (fun a => a.elim0) = 1#1) :
    Cert.KernelIdeal.Tail.result m c = Cert.ReferenceIdeal.Read.val_main_v8 (F := Ideal) x w q := by
  obtain ⟨hr, hs⟩ := Cert.Pre_indices_fit_and_sums_regroup.read x w q h
  have hlt : ∀ (g : Fin 64) (d : Fin 8), (q (ix2 g d) : BitVec 32).toInt.toNat < 64 := fun g d => by
    have := hr g d; omega
  let p : Fin 64 → Fin 8 → Fin 64 := fun g d => ⟨(q (ix2 g d) : BitVec 32).toInt.toNat, hlt g d⟩
  have hp : ∀ (g : Fin 64) (d : Fin 8), (q (ix2 g d) : BitVec 32).toInt = ((p g d).val : Int) := fun g d =>
    (Int.toNat_of_nonneg (hr g d).1).symm
  funext i
  obtain ⟨b, g, v, rfl⟩ : ∃ (b : Fin 16384) (g v : Fin 64), i = ix3 b g v := ⟨i 0, i 1, i 2, eq_ix3 i⟩
  have hR : g.val * 64 + v.val < 4096 := by have := g.isLt; have := v.isLt; omega
  rw [Cert.KernelIdeal.Tail.result_apply m c b g v ⟨g.val * 64 + v.val, hR⟩ rfl,
    Cert.ReferenceIdeal.Sum.result_apply x w q p hp b g v]
  refine Eq.trans (Finset.sum_congr rfl fun k _ => congrArg₂ (· * ·) ?_ (congrFun hx (ix2 b k)))
    (Cert.Proof.Math.onehot_sum (fun d => w (ix3 g v d)) (fun k => x (ix2 b k)) (p g) ?_)
  · unfold Cert.KernelIdeal.Region.table
    subst hw hq
    exact Cert.KernelIdeal.Block.table_apply _ _ p hp g v k _ rfl
  · refine hs.imp (fun hd d e hde => hd g d e (BitVec.eq_of_toInt_eq ?_)) fun hf => ⟨fun d => hf.1 _, fun k => hf.2 _⟩
    rw [hp, hp, hde]

/-- The reference's frame: it declares no semaphore, so every counter it ends with is zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems rfl r.2⟩)
    (Cert.ReferenceIdeal.Value.run (F := Ideal) m ρ)

end Cert.Proof.Equal

end
-- ==== Proof.lean ====
/-
  The certificate: both kernels' and the reference's frames, the idealization, and that the idealized kernel
  returns the reference's array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem

/-- From memories agreeing on the arguments, the kernel and the reference end with the same array. -/
theorem same_result : Cert.algebraic_KernelIdeal_ReferenceIdeal_pre_indices_fit_and_sums_regroup := by
  intro m g m' g' hpre hargs
  refine ⟨Cert.KernelIdeal.Tail.result m, Cert.KernelIdeal.Tail.run m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Read.val_main_v8_eq _ _ _).trans (Eq.symm ?_)
  refine Equal.result_eq m c _ _ _ (hargs c).1.symm (hargs c).2.1.symm (hargs c).2.2.symm ?_
  rw [(hargs c).1, (hargs c).2.1, (hargs c).2.2]
  exact congrFun (hpre c) _

/-- Every claim of the certificate. -/
theorem claim : Cert.Claim :=
  ⟨Cert.Kernel.Gen.facts, Cert.KernelIdeal.Gen.facts, Cert.ReferenceIdeal.Gen.facts, Cert.Pre_indices_fit_and_sums_regroup.facts,
    fun m g _ => Cert.Kernel.Gen.frame m g,
    fun m g _ => Cert.KernelIdeal.Gen.frame m g,
    fun m g _ => Cert.KernelIdeal.Gen.frame m g,
    fun m g _ => Equal.reference_frame m g,
    fun m g _ => Equal.reference_frame m g,
    trivial,
    same_result⟩

end Cert.Proof

end
